-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6144x1024 : Shape := ⟨3, ![3, 6144, 1024]⟩
abbrev S3x6144x1 : Shape := ⟨3, ![3, 6144, 1]⟩
abbrev S1024x7040 : Shape := ⟨2, ![1024, 7040]⟩
abbrev S7040 : Shape := ⟨1, ![7040]⟩
abbrev S3x6144x7040 : Shape := ⟨3, ![3, 6144, 7040]⟩
abbrev S18432x1024 : Shape := ⟨2, ![18432, 1024]⟩
abbrev S18432x1 : Shape := ⟨2, ![18432, 1]⟩
abbrev S1x7040 : Shape := ⟨2, ![1, 7040]⟩
abbrev S18432x7040 : Shape := ⟨2, ![18432, 7040]⟩
abbrev S256x1024 : Shape := ⟨2, ![256, 1024]⟩
abbrev S256x1 : Shape := ⟨2, ![256, 1]⟩
abbrev S256x7040 : Shape := ⟨2, ![256, 7040]⟩
abbrev S1024x512 : Shape := ⟨2, ![1024, 512]⟩
abbrev S256x512 : Shape := ⟨2, ![256, 512]⟩
abbrev S1x512 : Shape := ⟨2, ![1, 512]⟩
abbrev S1024x384 : Shape := ⟨2, ![1024, 384]⟩
abbrev S256x384 : Shape := ⟨2, ![256, 384]⟩
abbrev S1x384 : Shape := ⟨2, ![1, 384]⟩

abbrev nBuf : Space → Nat
  | .hbm => 11
  | .vmem => 10
  | .smem => 0
  | _ => 0

abbrev bufTy : (tb : Table) → Fin (tcTables nBuf tb) → BufTy
  | .hbm, ⟨0, _⟩ => ⟨S3x6144x1024, .fp8e4m3⟩
  | .hbm, ⟨1, _⟩ => ⟨S3x6144x1, .f32⟩
  | .hbm, ⟨2, _⟩ => ⟨S1024x7040, .fp8e4m3⟩
  | .hbm, ⟨3, _⟩ => ⟨S7040, .f32⟩
  | .hbm, ⟨4, _⟩ => ⟨S3x6144x7040, .bf16⟩
  | .hbm, ⟨5, _⟩ => ⟨S18432x1024, .fp8e4m3⟩
  | .hbm, ⟨6, _⟩ => ⟨S18432x1, .f32⟩
  | .hbm, ⟨7, _⟩ => ⟨S1x7040, .f32⟩
  | .hbm, ⟨8, _⟩ => ⟨S18432x7040, .bf16⟩
  | .hbm, ⟨9, _⟩ => ⟨S18432x7040, .bf16⟩
  | .hbm, ⟨10, _⟩ => ⟨S3x6144x7040, .bf16⟩
  | .local _ .vmem, ⟨0, _⟩ => ⟨S256x1024, .fp8e4m3⟩
  | .local _ .vmem, ⟨1, _⟩ => ⟨S256x1024, .fp8e4m3⟩
  | .local _ .vmem, ⟨2, _⟩ => ⟨S256x1, .f32⟩
  | .local _ .vmem, ⟨3, _⟩ => ⟨S256x1, .f32⟩
  | .local _ .vmem, ⟨4, _⟩ => ⟨S1024x7040, .fp8e4m3⟩
  | .local _ .vmem, ⟨5, _⟩ => ⟨S1x7040, .f32⟩
  | .local _ .vmem, ⟨6, _⟩ => ⟨S256x7040, .bf16⟩
  | .local _ .vmem, ⟨7, _⟩ => ⟨S256x7040, .bf16⟩
  | .local _ .vmem, ⟨8, _⟩ => ⟨S256x7040, .bf16⟩
  | .local _ .vmem, ⟨9, _⟩ => ⟨S256x7040, .bf16⟩
  | _, _ => ⟨S3x6144x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x7040 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7040 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7040 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7040 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x6144x1024 : Shape := ⟨3, ![3, 6144, 1024]⟩
abbrev S3x6144x1 : Shape := ⟨3, ![3, 6144, 1]⟩
abbrev S1024x7040 : Shape := ⟨2, ![1024, 7040]⟩
abbrev S7040 : Shape := ⟨1, ![7040]⟩
abbrev S3x6144x7040 : Shape := ⟨3, ![3, 6144, 7040]⟩
abbrev S1x1x7040 : Shape := ⟨3, ![1, 1, 7040]⟩

abbrev nBuf : Space → Nat
  | .hbm => 6
  | .vmem => 6
  | .smem => 0
  | _ => 0

abbrev bufTy : (tb : Table) → Fin (tcTables nBuf tb) → BufTy
  | .hbm, ⟨0, _⟩ => ⟨S3x6144x1024, .fp8e4m3⟩
  | .hbm, ⟨1, _⟩ => ⟨S3x6144x1, .f32⟩
  | .hbm, ⟨2, _⟩ => ⟨S1024x7040, .fp8e4m3⟩
  | .hbm, ⟨3, _⟩ => ⟨S7040, .f32⟩
  | .hbm, ⟨4, _⟩ => ⟨S3x6144x7040, .bf16⟩
  | .hbm, ⟨5, _⟩ => ⟨S3x6144x7040, .bf16⟩
  | .local _ .vmem, ⟨0, _⟩ => ⟨S3x6144x1024, .fp8e4m3⟩
  | .local _ .vmem, ⟨1, _⟩ => ⟨S3x6144x1, .f32⟩
  | .local _ .vmem, ⟨2, _⟩ => ⟨S1024x7040, .fp8e4m3⟩
  | .local _ .vmem, ⟨3, _⟩ => ⟨S7040, .f32⟩
  | .local _ .vmem, ⟨4, _⟩ => ⟨S3x6144x7040, .bf16⟩
  | .local _ .vmem, ⟨5, _⟩ => ⟨S3x6144x7040, .bf16⟩
  | _, _ => ⟨S3x6144x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x6144x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x7040 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7040 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x6144x7040 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x6144x7040 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/-
  ONE PRODUCT AT ONE INDEX. What the kernel's body computes for a chunk of columns of a block, and what the
  reference's body computes, each read at a single index as extended-real arithmetic: an inner product over the
  1024 contracted positions, times the row's scale, times the column's scale, plus the residual.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof

open Idealize.ShloMosaic
open scoped BigOperators

/-- The 512-column chunk of the kernel's body at row `r` and column `n` of the chunk: the inner product of row `r` of the
    block with column `n` of the chunk, times the two scales, plus the residual. -/
theorem tile512_apply [Cert.KernelIdeal.Facts] (x : FVec Ideal Cert.KernelIdeal.S256x1024 .fp8e4m3) (xs : FVec Ideal Cert.KernelIdeal.S256x1 .f32)
    (w : FVec Ideal Cert.KernelIdeal.S1024x512 .fp8e4m3) (ws : FVec Ideal Cert.KernelIdeal.S1x512 .f32)
    (res : FVec Ideal Cert.KernelIdeal.S256x512 .bf16) (r : Fin 256) (n : Fin 512) :
    Cert.KernelIdeal.Gen.k0_pay1 (F := Ideal) x xs w ws res (ix2 r n)
      = (∑ k : Fin 1024, x (ix2 r k) * w (ix2 k n)) * xs (ix2 r 0) * ws (ix2 0 n) + res (ix2 r n) := by
  pointwise [Cert.KernelIdeal.Gen.k0_pay1, Cert.KernelIdeal.dot_S256x1024_S1024x512_S256x512_1_0_0_1_n_n]

/-- The last chunk, 384 columns wide, read the same way. -/
theorem tile384_apply [Cert.KernelIdeal.Facts] (x : FVec Ideal Cert.KernelIdeal.S256x1024 .fp8e4m3) (xs : FVec Ideal Cert.KernelIdeal.S256x1 .f32)
    (w : FVec Ideal Cert.KernelIdeal.S1024x384 .fp8e4m3) (ws : FVec Ideal Cert.KernelIdeal.S1x384 .f32)
    (res : FVec Ideal Cert.KernelIdeal.S256x384 .bf16) (r : Fin 256) (n : Fin 384) :
    Cert.KernelIdeal.Gen.k0_pay2 (F := Ideal) x xs w ws res (ix2 r n)
      = (∑ k : Fin 1024, x (ix2 r k) * w (ix2 k n)) * xs (ix2 r 0) * ws (ix2 0 n) + res (ix2 r n) := by
  pointwise [Cert.KernelIdeal.Gen.k0_pay2, Cert.KernelIdeal.dot_S256x1024_S1024x384_S256x384_1_0_0_1_n_n]

/-- The reference's body at batch `b`, row `s`, column `n`: the same formula over the whole arrays. -/
theorem reference_apply [Cert.ReferenceIdeal.Facts] (x : FVec Ideal Cert.ReferenceIdeal.S3x6144x1024 .fp8e4m3)
    (w : FVec Ideal Cert.ReferenceIdeal.S1024x7040 .fp8e4m3) (xs : FVec Ideal Cert.ReferenceIdeal.S3x6144x1 .f32)
    (ws : FVec Ideal Cert.ReferenceIdeal.S7040 .f32) (res : FVec Ideal Cert.ReferenceIdeal.S3x6144x7040 .bf16)
    (b : Fin 3) (s : Fin 6144) (n : Fin 7040) :
    Cert.ReferenceIdeal.Gen.k0_pay1 (F := Ideal) x w xs ws res (ix3 b s n)
      = (∑ k : Fin 1024, x (ix3 b s k) * w (ix2 k n)) * xs (ix3 b s 0) * ws (ix1 n) + res (ix3 b s n) := by
  pointwise [Cert.ReferenceIdeal.Gen.k0_pay1, Cert.ReferenceIdeal.dot_S3x6144x1024_S1024x7040_S3x6144x7040_2_0_01_1_n_n]

end Cert.Proof
-- ==== Proof.Block.lean ====
/-
  WHAT ONE BLOCK COMPUTES. The body stores its 256 × 7040 output block as fourteen chunks of columns, thirteen of 512
  and one of 384. Each chunk is its part of one function of the input blocks, `block`; the chunks cover the block; so
  `block` is what the body leaves.
-/
module

public import proofs.«01_k».proof.Proof.Tile
public import proofs.«01_k».proof.Proof.Gen.KernelIdeal.Frame
public import Idealize.ShloMosaic.Lib.Pipeline.Value
public import Idealize.ShloMosaic.Lib.Tactic

@[expose] public section

noncomputable section

namespace Cert.Proof

open Idealize.ShloMosaic Cert.KernelIdeal Cert.KernelIdeal.Gen
open scoped BigOperators

/-- The block the kernel's body should leave: at row `r` and column `n` of the block, the inner product of row `r` of the
    input block with column `n` of the weights, times the row's scale, times the column's scale, plus the residual. -/
def block (x0 : Vec Ideal S256x1024 .fp8e4m3) (x1 : Vec Ideal S256x1 .f32) (x2 : Vec Ideal S1024x7040 .fp8e4m3)
    (x3 : Vec Ideal S1x7040 .f32) (x4 : Vec Ideal S256x7040 .bf16) : Vec Ideal S256x7040 .bf16 := fun y =>
  ((∑ k : Fin 1024, (x0 (ix2 (y 0) k) : EReal) * x2 (ix2 k (y 1))) * x1 (ix2 (y 0) 0) * x3 (ix2 0 (y 1)) + x4 (ix2 (y 0) (y 1)) : EReal)

/-- The offset of a load that starts at the corner. -/
theorem hz : (![0, 0] : Fin 2 → Nat) = fun _ => 0 := funext fun a => by fin_cases a <;> rfl

/-- A read of a two-axis vector through a rectangle at row 0 and column `o`: the entry at the same row, `o` columns on. -/
theorem ld_cols_apply {R C H W : ℕ} {e : EltTy} (x : Vec Ideal ⟨2, ![R, C]⟩ e) (o : ℕ)
    (inb : ∀ a, (![0, o] : Fin 2 → ℕ) a + (![H, W] : Fin 2 → ℕ) a ≤ (⟨2, ![R, C]⟩ : Shape).size a) (r : Fin H) (n : Fin W)
    (r' : Fin R) (n' : Fin C) (hr : r'.val = r.val) (hn : n'.val = o + n.val) :
    View.ld x (Rect.unit (s := ⟨2, ![R, C]⟩) ![0, o] ![H, W] inb) (ix2 r n) = x (ix2 r' n') := by
  refine congrArg x (funext fun a => Fin.ext ?_)
  match a with
  | ⟨0, _⟩ => simp [Rect.emb, Rect.unit, ix2, hr]
  | ⟨1, _⟩ => simp [Rect.emb, Rect.unit, ix2, hn]

/-- `block` at row `r` and column `o + n`, written with the vectors a chunk of `W` columns starting at column `o` reads. -/
theorem block_cols (x0 : Vec Ideal S256x1024 .fp8e4m3) (x1 : Vec Ideal S256x1 .f32) (x2 : Vec Ideal S1024x7040 .fp8e4m3)
    (x3 : Vec Ideal S1x7040 .f32) (x4 : Vec Ideal S256x7040 .bf16) (o W : ℕ) (ho : o + W ≤ 7040)
    (i2 : ∀ a, (![0, o] : Fin 2 → ℕ) a + (![1024, W] : Fin 2 → ℕ) a ≤ S1024x7040.size a)
    (i3 : ∀ a, (![0, o] : Fin 2 → ℕ) a + (![1, W] : Fin 2 → ℕ) a ≤ S1x7040.size a)
    (i4 : ∀ a, (![0, o] : Fin 2 → ℕ) a + (![256, W] : Fin 2 → ℕ) a ≤ S256x7040.size a) (r : Fin 256) (n : Fin W) :
    ((∑ k : Fin 1024, (x0 (ix2 r k) : EReal) * View.ld x2 (Rect.unit ![0, o] ![1024, W] i2) (ix2 k n)) * x1 (ix2 r 0)
        * View.ld x3 (Rect.unit ![0, o] ![1, W] i3) (ix2 0 n) + View.ld x4 (Rect.unit ![0, o] ![256, W] i4) (ix2 r n) : EReal)
      = block x0 x1 x2 x3 x4 ((Rect.unit (s := S256x7040) ![0, o] ![256, W] i4).emb (ix2 r n)) := by
  have e : (Rect.unit (s := S256x7040) ![0, o] ![256, W] i4).emb (ix2 r n)
      = ix2 (n0 := 256) (n1 := 7040) r ⟨o + n.val, by omega⟩ := by
    funext a
    apply Fin.ext
    match a with
    | ⟨0, _⟩ => simp [Rect.emb, Rect.unit, ix2]
    | ⟨1, _⟩ => simp [Rect.emb, Rect.unit, ix2]
  rw [e, ld_cols_apply x3 o i3 0 n 0 ⟨o + n.val, by omega⟩ rfl rfl, ld_cols_apply x4 o i4 r n r ⟨o + n.val, by omega⟩ rfl rfl]
  unfold block
  refine congrArg (fun u : EReal => u * x1 (ix2 r 0) * x3 (ix2 0 ⟨o + n.val, by omega⟩) + x4 (ix2 r ⟨o + n.val, by omega⟩)) ?_
  exact Finset.sum_congr rfl fun k _ =>
    congrArg (x0 (ix2 r k) * ·) (ld_cols_apply x2 o i2 k n k ⟨o + n.val, by omega⟩ rfl rfl)

/-- A chunk of 512 columns starting at column `o` is that part of `block`. -/
theorem chunk512 (x0 : Vec Ideal S256x1024 .fp8e4m3) (x1 : Vec Ideal S256x1 .f32) (x2 : Vec Ideal S1024x7040 .fp8e4m3)
    (x3 : Vec Ideal S1x7040 .f32) (x4 : Vec Ideal S256x7040 .bf16) (o : ℕ) (ho : o + 512 ≤ 7040)
    (i2 : ∀ a, (![0, o] : Fin 2 → ℕ) a + (![1024, 512] : Fin 2 → ℕ) a ≤ S1024x7040.size a)
    (i3 : ∀ a, (![0, o] : Fin 2 → ℕ) a + (![1, 512] : Fin 2 → ℕ) a ≤ S1x7040.size a)
    (i4 : ∀ a, (![0, o] : Fin 2 → ℕ) a + (![256, 512] : Fin 2 → ℕ) a ≤ S256x7040.size a) (j : S256x512.Idx) :
    k0_pay1 (F := Ideal) (k0_pay3 x0) (k0_pay4 x1) (View.ld x2 (Rect.unit ![0, o] ![1024, 512] i2))
        (View.ld x3 (Rect.unit ![0, o] ![1, 512] i3)) (View.ld x4 (Rect.unit ![0, o] ![256, 512] i4)) j
      = block x0 x1 x2 x3 x4 ((Rect.unit (s := S256x7040) ![0, o] ![256, 512] i4).emb j) := by
  rw [show k0_pay3 x0 = x0 from shapeCast_self _ _, show k0_pay4 x1 = x1 from shapeCast_self _ _, eq_ix2 j]
  exact (tile512_apply ..).trans (block_cols x0 x1 x2 x3 x4 o 512 ho i2 i3 i4 _ _)

/-- The last chunk, 384 columns wide, is its part of `block`. -/
theorem chunk384 (x0 : Vec Ideal S256x1024 .fp8e4m3) (x1 : Vec Ideal S256x1 .f32) (x2 : Vec Ideal S1024x7040 .fp8e4m3)
    (x3 : Vec Ideal S1x7040 .f32) (x4 : Vec Ideal S256x7040 .bf16) (o : ℕ) (ho : o + 384 ≤ 7040)
    (i2 : ∀ a, (![0, o] : Fin 2 → ℕ) a + (![1024, 384] : Fin 2 → ℕ) a ≤ S1024x7040.size a)
    (i3 : ∀ a, (![0, o] : Fin 2 → ℕ) a + (![1, 384] : Fin 2 → ℕ) a ≤ S1x7040.size a)
    (i4 : ∀ a, (![0, o] : Fin 2 → ℕ) a + (![256, 384] : Fin 2 → ℕ) a ≤ S256x7040.size a) (j : S256x384.Idx) :
    k0_pay2 (F := Ideal) (k0_pay3 x0) (k0_pay4 x1) (View.ld x2 (Rect.unit ![0, o] ![1024, 384] i2))
        (View.ld x3 (Rect.unit ![0, o] ![1, 384] i3)) (View.ld x4 (Rect.unit ![0, o] ![256, 384] i4)) j
      = block x0 x1 x2 x3 x4 ((Rect.unit (s := S256x7040) ![0, o] ![256, 384] i4).emb j) := by
  rw [show k0_pay3 x0 = x0 from shapeCast_self _ _, show k0_pay4 x1 = x1 from shapeCast_self _ _, eq_ix2 j]
  exact (tile384_apply ..).trans (block_cols x0 x1 x2 x3 x4 o 384 ho i2 i3 i4 _ _)

/-- WHAT ONE BLOCK COMPUTES: the fourteen chunks the body stores cover the block, and each is its part of `block`; so the
    body leaves exactly `block` of the input blocks. -/
theorem out_eq (c : Dev nD) (i : grid0.Coords) (arg1 : Memref sig .tc .vmem S256x1024 .fp8e4m3) (harg1 : arg1.IsWhole) (arg2 : Memref sig .tc .vmem S256x1 .f32) (harg2 : arg2.IsWhole) (arg3 : Memref sig .tc .vmem S1024x7040 .fp8e4m3) (harg3 : arg3.IsWhole) (arg4 : Memref sig .tc .vmem S1x7040 .f32) (harg4 : arg4.IsWhole) (arg5 : Memref sig .tc .vmem S256x7040 .bf16) (harg5 : arg5.IsWhole) (arg6 : Memref sig .tc .vmem S256x7040 .bf16) (harg6 : arg6.IsWhole)
    (x0 : Vec Ideal S256x1024 .fp8e4m3) (x1 : Vec Ideal S256x1 .f32) (x2 : Vec Ideal S1024x7040 .fp8e4m3) (x3 : Vec Ideal S1x7040 .f32) (x4 : Vec Ideal S256x7040 .bf16) :
    out0_A_5 c i arg1 harg1 arg2 harg2 arg3 harg3 arg4 harg4 arg5 harg5 arg6 harg6 x0 x1 x2 x3 x4 = block x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces _ _ ?_ y (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread, View.ld_unit_zero (S := S256x1024) hz, View.ld_unit_zero (S := S256x1) hz]
  simp only [List.forall_mem_cons]
  exact ⟨chunk384 x0 x1 x2 x3 x4 6656 (by decide) _ _ _,
    chunk512 x0 x1 x2 x3 x4 6144 (by decide) _ _ _,
    chunk512 x0 x1 x2 x3 x4 5632 (by decide) _ _ _,
    chunk512 x0 x1 x2 x3 x4 5120 (by decide) _ _ _,
    chunk512 x0 x1 x2 x3 x4 4608 (by decide) _ _ _,
    chunk512 x0 x1 x2 x3 x4 4096 (by decide) _ _ _,
    chunk512 x0 x1 x2 x3 x4 3584 (by decide) _ _ _,
    chunk512 x0 x1 x2 x3 x4 3072 (by decide) _ _ _,
    chunk512 x0 x1 x2 x3 x4 2560 (by decide) _ _ _,
    chunk512 x0 x1 x2 x3 x4 2048 (by decide) _ _ _,
    chunk512 x0 x1 x2 x3 x4 1536 (by decide) _ _ _,
    chunk512 x0 x1 x2 x3 x4 1024 (by decide) _ _ _,
    chunk512 x0 x1 x2 x3 x4 512 (by decide) _ _ _,
    chunk512 x0 x1 x2 x3 x4 0 (by decide) _ _ _,
    fun _ h => absurd h List.not_mem_nil⟩

end Cert.Proof
-- ==== Proof.Array.lean ====
/-
  WHAT THE ARRAY HOLDS. The grid's 72 points each write back one block of 256 rows of the 18432 × 7040 result array.
  Point `t` reads rows `256 t … 256 t + 255` of the flattened input, its row scales and the flattened residual, and all
  of the weights and column scales; so the block it writes is that block of one function of the arrays, `array`, and
  the 72 blocks cover the result.
-/
module

public import proofs.«01_k».proof.Proof.Block
public import proofs.«01_k».proof.Proof.Gen.KernelIdeal.Run

@[expose] public section

noncomputable section

namespace Cert.Proof

open Idealize.ShloMosaic Idealize.ShloMosaic.TcCoe Cert.KernelIdeal Cert.KernelIdeal.Gen
open Idealize.ShloMosaic.Pipeline (Dat)
open scoped BigOperators

variable (m : (ℓ : Loc nD τ sig) → Buf (Elt Ideal) ℓ)

/-- The flattened result as one function of the flattened arrays: row `i 0` of the input with column `i 1` of the weights,
    times the row's scale, times the column's scale, plus the residual. -/
def array (a0 : Vec Ideal S18432x1024 .fp8e4m3) (a1 : Vec Ideal S18432x1 .f32) (a2 : Vec Ideal S1024x7040 .fp8e4m3)
    (a3 : Vec Ideal S1x7040 .f32) (a4 : Vec Ideal S18432x7040 .bf16) : Vec Ideal S18432x7040 .bf16 := fun i =>
  ((∑ k : Fin 1024, (a0 (ix2 (i 0) k) : EReal) * a2 (ix2 k (i 1))) * a1 (ix2 (i 0) 0) * a3 (ix2 0 (i 1)) + a4 (ix2 (i 0) (i 1)) : EReal)

/-- The block index of every window at point `t`: the row blocks of the input, the row scales, the residual and the result
    are at block `t`; the weights and the column scales are whole. Decided over the 72 points. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0))

/-- Row `r` of block `t` is row `256 t + r` of the array. -/
def row (t : Fin cfg0.N) (r : Fin 256) : Fin 18432 := ⟨256 * t.val + r.val, by have h : t.val < 72 := t.isLt; omega⟩

/-- The input's block at point `t`, entry by entry. -/
theorem iblk0_apply (c : Dev nD) (t : Fin cfg0.N) (r : Fin 256) (k : Fin 1024) :
    iblk m c 0 t (ix2 r k) = V m c main_v0 (ix2 (row t r) k) := by
  obtain ⟨⟨e0, e1⟩, -⟩ := idx_facts t
  refine congrArg (V m c main_v0) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

/-- The row scales' block at point `t`, entry by entry. -/
theorem iblk1_apply (c : Dev nD) (t : Fin cfg0.N) (r : Fin 256) :
    iblk m c 1 t (ix2 r 0) = V m c main_v1 (ix2 (row t r) 0) := by
  obtain ⟨-, ⟨e0, e1⟩, -⟩ := idx_facts t
  refine congrArg (V m c main_v1) (funext fun a => Fin.ext ?_)
  match a with
  | ⟨0, _⟩ => show win0_1.index t (0 : Fin 2) * 256 + 1 * r.val = 256 * t.val + r.val; omega
  | ⟨1, _⟩ => show win0_1.index t (1 : Fin 2) * 1 + 1 * 0 = 0; omega

/-- The weights' block at every point is the weights. -/
theorem iblk2_apply (c : Dev nD) (t : Fin cfg0.N) (k : Fin 1024) (n : Fin 7040) :
    iblk m c 2 t (ix2 k n) = V m c main_arg2 (ix2 k n) := by
  obtain ⟨-, -, ⟨e0, e1⟩, -⟩ := idx_facts t
  refine congrArg (V m c main_arg2) (funext fun a => Fin.ext ?_)
  match a with
  | ⟨0, _⟩ => show win0_2.index t (0 : Fin 2) * 1024 + 1 * k.val = k.val; omega
  | ⟨1, _⟩ => show win0_2.index t (1 : Fin 2) * 7040 + 1 * n.val = n.val; omega

/-- The column scales' block at every point is the column scales. -/
theorem iblk3_apply (c : Dev nD) (t : Fin cfg0.N) (n : Fin 7040) :
    iblk m c 3 t (ix2 0 n) = V m c main_v2 (ix2 0 n) := by
  obtain ⟨-, -, -, ⟨e0, e1⟩, -⟩ := idx_facts t
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 7040 + 1 * n.val = n.val; omega

/-- The residual's block at point `t`, entry by entry. -/
theorem iblk4_apply (c : Dev nD) (t : Fin cfg0.N) (r : Fin 256) (n : Fin 7040) :
    iblk m c 4 t (ix2 r n) = V m c main_v3 (ix2 (row t r) n) := by
  obtain ⟨-, -, -, -, ⟨e0, e1⟩, -⟩ := idx_facts t
  refine congrArg (V m c main_v3) (funext fun a => Fin.ext ?_)
  match a with
  | ⟨0, _⟩ => show win0_4.index t (0 : Fin 2) * 256 + 1 * r.val = 256 * t.val + r.val; omega
  | ⟨1, _⟩ => show win0_4.index t (1 : Fin 2) * 7040 + 1 * n.val = n.val; omega

/-- Where entry `(r, n)` of the result's block at point `t` lies in the result array. -/
theorem emb5 (t : Fin cfg0.N) (r : Fin 256) (n : Fin 7040) :
    ((cfg0.win 5).blk t).view.emb (ix2 r n) = ix2 (row t r) n := by
  obtain ⟨-, -, -, -, -, ⟨e0, e1⟩⟩ := idx_facts t
  refine funext fun a => Fin.ext ?_
  match a with
  | ⟨0, _⟩ => show win0_5.index t (0 : Fin 2) * 256 + 1 * r.val = 256 * t.val + r.val; omega
  | ⟨1, _⟩ => show win0_5.index t (1 : Fin 2) * 7040 + 1 * n.val = n.val; omega

/-- `block` of the input blocks at point `t`, at row `r` and column `n`, is `array` of the arrays at row `256 t + r`. -/
theorem block_eq_array (c : Dev nD) (t : Fin cfg0.N) (r : Fin 256) (n : Fin 7040) :
    block (iblk m c 0 t) (iblk m c 1 t) (iblk m c 2 t) (iblk m c 3 t) (iblk m c 4 t) (ix2 r n)
      = array (V m c main_v0) (V m c main_v1) (V m c main_arg2) (V m c main_v2) (V m c main_v3) (ix2 (row t r) n) := by
  unfold block array
  simp only [ix2_0, ix2_1, iblk0_apply, iblk1_apply, iblk2_apply, iblk3_apply, iblk4_apply]

/-- What point `t` writes back is its block of `array`. -/
theorem flushed_eq (c : Dev nD) (t : Fin cfg0.N) :
    (dats m 0 c).flushed 5 t = ((cfg0.win 5).blk t).view.read (Elt Ideal)
      (array (V m c main_v0) (V m c main_v1) (V m c main_arg2) (V m c main_v2) (V m c main_v3)) := by
  show (cfg0.win 5).cut (grid0.coords t) ((dats m 0 c).after 5 t) = _
  rw [after0_5, outsAt0, out_eq]
  funext j
  have hj : (j : S256x7040.Idx) = ix2 (n0 := 256) (n1 := 7040) (j 0) (j 1) := eq_ix2 j
  have hi := (congrArg ((cfg0.win 5).blk t).view.emb hj).trans (emb5 t (j 0) (j 1))
  exact ((congrArg (block _ _ _ _ _) hj).trans (block_eq_array m c t (j 0) (j 1))).trans (congrArg (array _ _ _ _ _) hi.symm)

/-- Row `i` of the result is row `i mod 256` of block `i / 256`: every index of the result is in some point's block. -/
theorem covered (i : S18432x7040.Idx) :
    ∃ t : Fin cfg0.N, (cfg0.win 5).flush t = true ∧ i ∈ ((cfg0.win 5).blk t).view.set := by
  have h0 : (i 0).val < 18432 := (i 0).isLt
  have hN : cfg0.N = 72 := N_0
  refine ⟨⟨(i 0).val / 256, by omega⟩, flush0_5 _, ?_⟩
  refine Finset.mem_map.2 ⟨ix2 (n0 := 256) (n1 := 7040) ⟨(i 0).val % 256, by omega⟩ (i 1), Finset.mem_univ _, ?_⟩
  refine (emb5 _ _ (i 1)).trans (funext fun a => Fin.ext ?_)
  match a with
  | ⟨0, _⟩ => show 256 * ((i 0).val / 256) + (i 0).val % 256 = (i 0).val; omega
  | ⟨1, _⟩ => rfl

/-- THE RESULT ARRAY after the grid is `array` of the arrays the grid reads. -/
theorem region_eq (c : Dev nD) :
    Cert.KernelIdeal.Value.reg_main_v4 m c
      = array (V m c main_v0) (V m c main_v1) (V m c main_arg2) (V m c main_v2) (V m c main_v3) :=
  (dats m 0 c).arrAt_eq_of_cover 5 _ (fun t _ => flushed_eq m c t) covered

end Cert.Proof
-- ==== Proof.Flatten.lean ====
/-
  THE RESHAPES AROUND THE GRID. Before the grid the batch and row axes of the input, the row scales and the residual are
  flattened into one (row `s` of batch `b` becomes row `6144 b + s`) and the column scales get a unit axis; after it the
  result is given its batch axis back.
-/
module

public import proofs.«01_k».proof.Proof.Array

@[expose] public section

noncomputable section

namespace Cert.Proof

open Idealize.ShloMosaic Idealize.ShloMosaic.TcCoe Idealize.ShloMosaic.StableHlo Cert.KernelIdeal Cert.KernelIdeal.Gen
open scoped BigOperators

variable (m : (ℓ : Loc nD τ sig) → Buf (Elt Ideal) ℓ)

/-- The grid finds the input flattened. -/
theorem V_main_v0 (c : Dev nD) : V m c main_v0
    = shapeCast S18432x1024 (m ((c.tc : Thread nD τ).loc main_arg0)) shapeCasts_S3x6144x1024_S18432x1024 := by
  show after (List.flatten [hostOps0]) (fun b => m (c, b)) (Proc.devRef .tc main_v0) = _
  simp only [hostOps0, List.flatten_cons, List.flatten_nil, List.append_nil, List.cons_append, List.nil_append]
  after_results <;> rfl

/-- The grid finds the row scales flattened. -/
theorem V_main_v1 (c : Dev nD) : V m c main_v1
    = shapeCast S18432x1 (m ((c.tc : Thread nD τ).loc main_arg1)) shapeCasts_S3x6144x1_S18432x1 := by
  show after (List.flatten [hostOps0]) (fun b => m (c, b)) (Proc.devRef .tc main_v1) = _
  simp only [hostOps0, List.flatten_cons, List.flatten_nil, List.append_nil, List.cons_append, List.nil_append]
  after_results <;> rfl

/-- The grid finds the column scales as one row. -/
theorem V_main_v2 (c : Dev nD) : V m c main_v2
    = shapeCast S1x7040 (m ((c.tc : Thread nD τ).loc main_arg3)) shapeCasts_S7040_S1x7040 := by
  show after (List.flatten [hostOps0]) (fun b => m (c, b)) (Proc.devRef .tc main_v2) = _
  simp only [hostOps0, List.flatten_cons, List.flatten_nil, List.append_nil, List.cons_append, List.nil_append]
  after_results <;> rfl

/-- The grid finds the residual flattened. -/
theorem V_main_v3 (c : Dev nD) : V m c main_v3
    = shapeCast S18432x7040 (m ((c.tc : Thread nD τ).loc main_arg4)) shapeCasts_S3x6144x7040_S18432x7040 := by
  show after (List.flatten [hostOps0]) (fun b => m (c, b)) (Proc.devRef .tc main_v3) = _
  simp only [hostOps0, List.flatten_cons, List.flatten_nil, List.append_nil, List.cons_append, List.nil_append]
  after_results <;> rfl

/-- Row `s` of batch `b`, as a row of the flattened arrays. -/
def flat (b : Fin 3) (s : Fin 6144) : Fin 18432 := ⟨6144 * b.val + s.val, by omega⟩

/-- Flattening the batch and row axes of a three-axis array puts row `s` of batch `b` at row `6144 b + s`. -/
theorem flatten_apply {C : ℕ} {α : Type} (x : (⟨3, ![3, 6144, C]⟩ : Shape).Idx → α)
    (h : (⟨3, ![3, 6144, C]⟩ : Shape).ShapeCasts ⟨2, ![18432, C]⟩) (b : Fin 3) (s : Fin 6144) (k : Fin C) :
    shapeCast ⟨2, ![18432, C]⟩ x h (ix2 (flat b s) k) = x (ix3 b s k) := by
  refine shapeCast_apply x h _ _ ?_
  rw [Shape.rowMajor_val_two, Shape.rowMajor_val_three]
  show (b.val * 6144 + s.val) * C + k.val = (6144 * b.val + s.val) * C + k.val
  rw [Nat.mul_comm b.val]

/-- Giving the flattened array its batch axis back reads row `6144 b + s` at row `s` of batch `b`. -/
theorem unflatten_apply {C : ℕ} {α : Type} (x : (⟨2, ![18432, C]⟩ : Shape).Idx → α)
    (h : (⟨2, ![18432, C]⟩ : Shape).ShapeCasts ⟨3, ![3, 6144, C]⟩) (b : Fin 3) (s : Fin 6144) (k : Fin C) :
    shapeCast ⟨3, ![3, 6144, C]⟩ x h (ix3 b s k) = x (ix2 (flat b s) k) := by
  refine shapeCast_apply x h _ _ ?_
  rw [Shape.rowMajor_val_two, Shape.rowMajor_val_three]
  show (6144 * b.val + s.val) * C + k.val = (b.val * 6144 + s.val) * C + k.val
  rw [Nat.mul_comm b.val]

/-- The column scales as one row: entry `n` of the row is scale `n`. -/
theorem row_apply {α : Type} (x : S7040.Idx → α) (h : S7040.ShapeCasts S1x7040) (n : Fin 7040) :
    shapeCast S1x7040 x h (ix2 0 n) = x (ix1 n) := by
  refine shapeCast_apply x h _ _ ?_
  rw [Shape.rowMajor_val_two, Shape.rowMajor_val_one]
  show n.val = 0 * 7040 + n.val
  omega

end Cert.Proof
-- ==== Proof.Equation.lean ====
/-
  THE EQUATION. The kernel's result — the flattened arrays' function `array`, given its batch axis back — is the
  reference's result, entry by entry: both are the inner product over the 1024 contracted positions, times the row's
  scale, times the column's scale, plus the residual, in the same order, so nothing but the indices is to be matched.
-/
module

public import proofs.«01_k».proof.Proof.Flatten
public import proofs.«01_k».proof.Proof.Gen.ReferenceIdeal.Value

@[expose] public section

noncomputable section

namespace Cert.Proof

open Idealize.ShloMosaic Idealize.ShloMosaic.TcCoe Cert.KernelIdeal Cert.KernelIdeal.Gen
open scoped BigOperators

variable (m : (ℓ : Loc nD τ sig) → Buf (Elt Ideal) ℓ)

/-- The flattened result at row `s` of batch `b`, from the arguments: what the reference's body computes there. -/
theorem array_flat (x : Vec Ideal S3x6144x1024 .fp8e4m3) (xs : Vec Ideal S3x6144x1 .f32) (w : Vec Ideal S1024x7040 .fp8e4m3)
    (ws : Vec Ideal S7040 .f32) (res : Vec Ideal S3x6144x7040 .bf16) (b : Fin 3) (s : Fin 6144) (n : Fin 7040) :
    array (shapeCast S18432x1024 x shapeCasts_S3x6144x1024_S18432x1024) (shapeCast S18432x1 xs shapeCasts_S3x6144x1_S18432x1) w
        (shapeCast S1x7040 ws shapeCasts_S7040_S1x7040) (shapeCast S18432x7040 res shapeCasts_S3x6144x7040_S18432x7040)
        (ix2 (flat b s) n)
      = Cert.ReferenceIdeal.Value.G5 (F := Ideal) x xs w ws res (ix3 b s n) := by
  refine Eq.trans ?_ (reference_apply x w xs ws res b s n).symm
  unfold array
  simp only [ix2_0, ix2_1, flatten_apply, row_apply]

/-- THE EQUATION: the result the kernel's run leaves is the reference's function of the arguments. -/
theorem result_eq (c : Dev nD) :
    shapeCast S3x6144x7040 (Cert.KernelIdeal.Value.reg_main_v4 m c) shapeCasts_S18432x7040_S3x6144x7040
      = Cert.ReferenceIdeal.Value.G5 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [region_eq, V_main_v0, V_main_v1, V_main_arg2, V_main_v2, V_main_v3]
  funext i
  rw [eq_ix3 i]
  exact (unflatten_apply _ _ (i 0) (i 1) (i 2)).trans (array_flat _ _ _ _ _ (i 0) (i 1) (i 2))

end Cert.Proof
-- ==== Proof.lean ====
/-
  THE CLAIM: the three frames (generated), the ideal pass changed nothing, and the value equation. The mathematics is in
  Proof/Tile.lean (one product at one index), Proof/Block.lean (what one block computes), Proof/Array.lean (what the
  array holds), Proof/Flatten.lean (the reshapes around the grid) and Proof/Equation.lean (the equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Run
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- THE VALUE CLAIM: from memories that agree on the arguments, the kernel and the reference both run, end with the same
    result — the reference's function of the arguments — and leave the arguments as they were. -/
theorem algebraic : Cert.algebraic_KernelIdeal_ReferenceIdeal := fun m g m' g' _ hagree =>
  ⟨fun c => Cert.ReferenceIdeal.Value.G5 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono (fun _ h c => ⟨(h c).1.trans (result_eq m c), (h c).2⟩)
      (Cert.KernelIdeal.Value.run (F := Ideal) m g),
    (θ_run Cert.ReferenceIdeal.defs _ _).mono
      (fun _ h c => ⟨(h c).1.trans (by
        obtain ⟨h0, h1, h2, h3, h4⟩ := hagree c
        rw [h0, h1, h2, h3, h4]), (h c).2⟩)
      (Cert.ReferenceIdeal.Value.run (F := Ideal) m' g')⟩

/-- All five claims: the three programs run, keep their arguments and end with every semaphore at zero; the ideal pass
    rewrote nothing; and the value claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
